-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_biases_zero [hPre_biases_zero : Cert.Pre_biases_zero.Facts] (m : (ℓ : Loc Cert.KernelIdeal.nD Cert.KernelIdeal.τ Cert.KernelIdeal.sig) → Buf (Elt Ideal) ℓ) : Prop :=
  ∀ c : Dev Cert.KernelIdeal.nD,
    (Cert.Pre_biases_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_biases_zero [hPre_biases_zero : Cert.Pre_biases_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_biases_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_biases_zero [hKernelIdeal : Cert.KernelIdeal.Facts] [hPre_biases_zero : Cert.Pre_biases_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_biases_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_biases_zero [hReferenceIdeal : Cert.ReferenceIdeal.Facts] [hPre_biases_zero : Cert.Pre_biases_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_biases_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_biases_zero [hKernelIdeal : Cert.KernelIdeal.Facts] [hReferenceIdeal : Cert.ReferenceIdeal.Facts] [hPre_biases_zero : Cert.Pre_biases_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_biases_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_biases_zero : Cert.Pre_biases_zero.Facts),
    quiescent_Kernel (hKernel := hKernel)
    ∧ quiescent_KernelIdeal (hKernelIdeal := hKernelIdeal)
    ∧ quiescent_KernelIdeal_pre_biases_zero (hKernelIdeal := hKernelIdeal) (hPre_biases_zero := hPre_biases_zero)
    ∧ quiescent_ReferenceIdeal (hReferenceIdeal := hReferenceIdeal)
    ∧ quiescent_ReferenceIdeal_pre_biases_zero (hReferenceIdeal := hReferenceIdeal) (hPre_biases_zero := hPre_biases_zero)
    ∧ preserves_Kernel_KernelIdeal
    ∧ algebraic_KernelIdeal_ReferenceIdeal_pre_biases_zero (hKernelIdeal := hKernelIdeal) (hReferenceIdeal := hReferenceIdeal) (hPre_biases_zero := hPre_biases_zero)
-- ==== Pre_biases_zero.lean ====
abbrev S77x1024 : Shape := ⟨2, ![77, 1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S512x2 : Shape := ⟨2, ![512, 2]⟩
abbrev S2 : Shape := ⟨1, ![2]⟩
abbrev S1027 : Shape := ⟨1, ![1027]⟩
abbrev S_ : Shape := ⟨0, ![]⟩

class Facts : Prop where
  concatenates_S512_S256_S256_S1_S2_S1027_d0 : Shape.Concatenates [S512, S256, S256, S1, S2] S1027 0
  bcast_S_S1027 : S_.BroadcastsInDim S1027 (![] : Fin 0 → Fin S1027.rank)

variable [Facts]

def fn {F : FTy → Type} [FloatOps F] (main_arg0 : FVec F S77x1024 .f32) (main_arg1 : FVec F S1024x512 .f32) (main_arg2 : FVec F S512 .f32) (main_arg3 : FVec F S512x256 .f32) (main_arg4 : FVec F S256 .f32) (main_arg5 : FVec F S512x256 .f32) (main_arg6 : FVec F S256 .f32) (main_arg7 : FVec F S256x1 .f32) (main_arg8 : FVec F S1 .f32) (main_arg9 : FVec F S512x2 .f32) (main_arg10 : FVec F S2 .f32) : IVec S1027 1 :=
  let main_v0 : FVec F S1027 .f32 := concatenate S1027 0 [⟨S512, main_arg2⟩, ⟨S256, main_arg4⟩, ⟨S256, main_arg6⟩, ⟨S1, main_arg8⟩, ⟨S2, main_arg10⟩] concatenates_S512_S256_S256_S1_S2_S1027_d0
  let main_cst : FVec F S_ .f32 := constant S_ .f32 0x00000000#32
  let main_v1 : FVec F S1027 .f32 := broadcastInDim S1027 ![] bcast_S_S1027 main_cst
  let main_v2 : IVec S1027 1 := cmpf .oeq main_v0 main_v1
  main_v2
-- ==== Kernel.lean ====
abbrev S77x1024 : Shape := ⟨2, ![77, 1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S512x2 : Shape := ⟨2, ![512, 2]⟩
abbrev S2 : Shape := ⟨1, ![2]⟩
abbrev S1x256 : Shape := ⟨2, ![1, 256]⟩
abbrev S1x2 : Shape := ⟨2, ![1, 2]⟩
abbrev S1x1 : Shape := ⟨2, ![1, 1]⟩
abbrev S1x77 : Shape := ⟨2, ![1, 77]⟩
abbrev S6 : Shape := ⟨1, ![6]⟩
abbrev S_ : Shape := ⟨0, ![]⟩
abbrev S256x512 : Shape := ⟨2, ![256, 512]⟩
abbrev S77x256 : Shape := ⟨2, ![77, 256]⟩
abbrev S77x512 : Shape := ⟨2, ![77, 512]⟩
abbrev S1x512 : Shape := ⟨2, ![1, 512]⟩

abbrev nBuf : Space → Nat
  | .hbm => 16
  | .vmem => 10
  | .smem => 0
  | _ => 0

abbrev bufTy : (tb : Table) → Fin (tcTables nBuf tb) → BufTy
  | .hbm, ⟨0, _⟩ => ⟨S77x1024, .f32⟩
  | .hbm, ⟨1, _⟩ => ⟨S1024x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S512x2, .f32⟩
  | .hbm, ⟨10, _⟩ => ⟨S2, .f32⟩
  | .hbm, ⟨11, _⟩ => ⟨S1x256, .f32⟩
  | .hbm, ⟨12, _⟩ => ⟨S1x2, .f32⟩
  | .hbm, ⟨13, _⟩ => ⟨S1x2, .f32⟩
  | .hbm, ⟨14, _⟩ => ⟨S1x1, .i32⟩
  | .hbm, ⟨15, _⟩ => ⟨S1x77, .f32⟩
  | .local _ .vmem, ⟨0, _⟩ => ⟨S77x1024, .f32⟩
  | .local _ .vmem, ⟨1, _⟩ => ⟨S1x256, .f32⟩
  | .local _ .vmem, ⟨2, _⟩ => ⟨S512x2, .f32⟩
  | .local _ .vmem, ⟨3, _⟩ => ⟨S1x2, .f32⟩
  | .local _ .vmem, ⟨4, _⟩ => ⟨S1x2, .f32⟩
  | .local _ .vmem, ⟨5, _⟩ => ⟨S1x1, .i32⟩
  | .local _ .vmem, ⟨6, _⟩ => ⟨S1x77, .f32⟩
  | .local _ .vmem, ⟨7, _⟩ => ⟨S1024x512, .f32⟩
  | .local _ .vmem, ⟨8, _⟩ => ⟨S512x256, .f32⟩
  | .local _ .vmem, ⟨9, _⟩ => ⟨S512x256, .f32⟩
  | _, _ => ⟨S77x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S77x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x77 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S77x1024 : Shape := ⟨2, ![77, 1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S512x2 : Shape := ⟨2, ![512, 2]⟩
abbrev S2 : Shape := ⟨1, ![2]⟩
abbrev S77x512 : Shape := ⟨2, ![77, 512]⟩
abbrev S1x512 : Shape := ⟨2, ![1, 512]⟩
abbrev S_ : Shape := ⟨0, ![]⟩
abbrev S77x256 : Shape := ⟨2, ![77, 256]⟩
abbrev S1x256 : Shape := ⟨2, ![1, 256]⟩
abbrev S77x1 : Shape := ⟨2, ![77, 1]⟩
abbrev S1x1 : Shape := ⟨2, ![1, 1]⟩
abbrev S1x77 : Shape := ⟨2, ![1, 77]⟩
abbrev S1x2 : Shape := ⟨2, ![1, 2]⟩

abbrev nBuf : Space → Nat
  | .hbm => 75
  | .vmem => 0
  | .smem => 0
  | _ => 0

abbrev bufTy : (tb : Table) → Fin (tcTables nBuf tb) → BufTy
  | .hbm, ⟨0, _⟩ => ⟨S77x1024, .f32⟩
  | .hbm, ⟨1, _⟩ => ⟨S1024x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S512x2, .f32⟩
  | .hbm, ⟨10, _⟩ => ⟨S2, .f32⟩
  | .hbm, ⟨11, _⟩ => ⟨S77x512, .f32⟩
  | .hbm, ⟨12, _⟩ => ⟨S1x512, .f32⟩
  | .hbm, ⟨13, _⟩ => ⟨S77x512, .f32⟩
  | .hbm, ⟨14, _⟩ => ⟨S77x512, .f32⟩
  | .hbm, ⟨15, _⟩ => ⟨S_, .f32⟩
  | .hbm, ⟨16, _⟩ => ⟨S77x512, .f32⟩
  | .hbm, ⟨17, _⟩ => ⟨S77x512, .f32⟩
  | .hbm, ⟨18, _⟩ => ⟨S77x256, .f32⟩
  | .hbm, ⟨19, _⟩ => ⟨S1x256, .f32⟩
  | .hbm, ⟨20, _⟩ => ⟨S77x256, .f32⟩
  | .hbm, ⟨21, _⟩ => ⟨S77x256, .f32⟩
  | .hbm, ⟨22, _⟩ => ⟨S77x256, .f32⟩
  | .hbm, ⟨23, _⟩ => ⟨S77x256, .f32⟩
  | .hbm, ⟨24, _⟩ => ⟨S1x256, .f32⟩
  | .hbm, ⟨25, _⟩ => ⟨S77x256, .f32⟩
  | .hbm, ⟨26, _⟩ => ⟨S77x256, .f32⟩
  | .hbm, ⟨27, _⟩ => ⟨S77x256, .f32⟩
  | .hbm, ⟨28, _⟩ => ⟨S77x256, .f32⟩
  | .hbm, ⟨29, _⟩ => ⟨S_, .f32⟩
  | .hbm, ⟨30, _⟩ => ⟨S77x256, .f32⟩
  | .hbm, ⟨31, _⟩ => ⟨S77x256, .f32⟩
  | .hbm, ⟨32, _⟩ => ⟨S_, .f32⟩
  | .hbm, ⟨33, _⟩ => ⟨S77x256, .f32⟩
  | .hbm, ⟨34, _⟩ => ⟨S77x256, .f32⟩
  | .hbm, ⟨35, _⟩ => ⟨S77x256, .f32⟩
  | .hbm, ⟨36, _⟩ => ⟨S77x1, .f32⟩
  | .hbm, ⟨37, _⟩ => ⟨S1x1, .f32⟩
  | .hbm, ⟨38, _⟩ => ⟨S77x1, .f32⟩
  | .hbm, ⟨39, _⟩ => ⟨S77x1, .f32⟩
  | .hbm, ⟨40, _⟩ => ⟨S1x77, .f32⟩
  | .hbm, ⟨41, _⟩ => ⟨S_, .f32⟩
  | .hbm, ⟨42, _⟩ => ⟨S1, .f32⟩
  | .hbm, ⟨43, _⟩ => ⟨S_, .f32⟩
  | .hbm, ⟨44, _⟩ => ⟨S1, .f32⟩
  | .hbm, ⟨45, _⟩ => ⟨S1, .f32⟩
  | .hbm, ⟨46, _⟩ => ⟨S1x1, .f32⟩
  | .hbm, ⟨47, _⟩ => ⟨S1x77, .f32⟩
  | .hbm, ⟨48, _⟩ => ⟨S1x77, .f32⟩
  | .hbm, ⟨49, _⟩ => ⟨S1x77, .f32⟩
  | .hbm, ⟨50, _⟩ => ⟨S_, .f32⟩
  | .hbm, ⟨51, _⟩ => ⟨S1, .f32⟩
  | .hbm, ⟨52, _⟩ => ⟨S1x1, .f32⟩
  | .hbm, ⟨53, _⟩ => ⟨S1x77, .f32⟩
  | .hbm, ⟨54, _⟩ => ⟨S1x77, .f32⟩
  | .hbm, ⟨55, _⟩ => ⟨S1x512, .f32⟩
  | .hbm, ⟨56, _⟩ => ⟨S1x2, .f32⟩
  | .hbm, ⟨57, _⟩ => ⟨S1x2, .f32⟩
  | .hbm, ⟨58, _⟩ => ⟨S1x2, .f32⟩
  | .hbm, ⟨59, _⟩ => ⟨S_, .f32⟩
  | .hbm, ⟨60, _⟩ => ⟨S1, .f32⟩
  | .hbm, ⟨61, _⟩ => ⟨S_, .f32⟩
  | .hbm, ⟨62, _⟩ => ⟨S1, .f32⟩
  | .hbm, ⟨63, _⟩ => ⟨S1, .f32⟩
  | .hbm, ⟨64, _⟩ => ⟨S1x1, .f32⟩
  | .hbm, ⟨65, _⟩ => ⟨S1x2, .f32⟩
  | .hbm, ⟨66, _⟩ => ⟨S1x2, .f32⟩
  | .hbm, ⟨67, _⟩ => ⟨S1x2, .f32⟩
  | .hbm, ⟨68, _⟩ => ⟨S_, .f32⟩
  | .hbm, ⟨69, _⟩ => ⟨S1, .f32⟩
  | .hbm, ⟨70, _⟩ => ⟨S1x1, .f32⟩
  | .hbm, ⟨71, _⟩ => ⟨S1x2, .f32⟩
  | .hbm, ⟨72, _⟩ => ⟨S1x2, .f32⟩
  | .hbm, ⟨73, _⟩ => ⟨S1x1, .f32⟩
  | .hbm, ⟨74, _⟩ => ⟨S1x1, .i32⟩
  | _, _ => ⟨S77x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_values : Ref sig .tc := ⟨.hbm, 73, rfl⟩
abbrev main_indices : Ref sig .tc := ⟨.hbm, 74, rfl⟩

abbrev nD : Nat := 1
abbrev τ : Topo := Topo.v7x

variable {F : FTy → Type} [FloatOps F]
-- ==== Proof.Biases.lean ====
/-
The precondition read: the five bias vectors, laid end to end, compare equal to zero throughout, so each is zero.
-/
module
public import proofs.«01_k».proof.Pre_biases_zero
public import proofs.«01_k».proof.Proof.Gen.Pre_biases_zero
public import Idealize.ShloMosaic.Lib.IdealHost
public import Idealize.ShloMosaic.Lib.Pipeline.Value
@[expose] public section
noncomputable section
open Idealize.ShloMosaic

namespace Cert.Biases
open Cert.Pre_biases_zero

variable {h : FVec Ideal S77x1024 .f32} {w1 : FVec Ideal S1024x512 .f32} {b1 : FVec Ideal S512 .f32}
  {wa : FVec Ideal S512x256 .f32} {ba : FVec Ideal S256 .f32} {wb : FVec Ideal S512x256 .f32} {bb : FVec Ideal S256 .f32}
  {wc : FVec Ideal S256x1 .f32} {bc : FVec Ideal S1 .f32} {wcls : FVec Ideal S512x2 .f32} {bcls : FVec Ideal S2 .f32}

/-- The five biases, in the order they are laid end to end. -/
abbrev pieces (b1 : FVec Ideal S512 .f32) (ba bb : FVec Ideal S256 .f32) (bc : FVec Ideal S1 .f32)
    (bcls : FVec Ideal S2 .f32) : List ((s : Shape) × (s.Idx → Ideal .f32)) :=
  [⟨S512, b1⟩, ⟨S256, ba⟩, ⟨S256, bb⟩, ⟨S1, bc⟩, ⟨S2, bcls⟩]

/-- The five biases laid end to end. -/
def joined (b1 : FVec Ideal S512 .f32) (ba bb : FVec Ideal S256 .f32) (bc : FVec Ideal S1 .f32)
    (bcls : FVec Ideal S2 .f32) : FVec Ideal S1027 .f32 :=
  concatenate S1027 0 (pieces b1 ba bb bc bcls) Facts.concatenates_S512_S256_S256_S1_S2_S1027_d0

/-- Where the precondition holds, the joined vector is zero. -/
theorem joined_zero (hp : fn h w1 b1 wa ba wb bb wc bc wcls bcls = fun _ => 1#1) (y : S1027.Idx) :
    joined b1 ba bb bc bcls y = (0 : EReal) := by
  have e : Ideal.cmp .oeq (joined b1 ba bb bc bcls y) (Ideal.ofBits .f32 0x00000000#32) = 1#1 := congrFun hp y
  rw [Ideal.ofBits_zero_f32] at e
  by_contra hne
  simp [Ideal.cmp, hne] at e

/-- A position of the joined vector. -/
def pos (k : ℕ) (hk : k < 1027) : S1027.Idx := fun a => match a with | ⟨0, _⟩ => ⟨k, hk⟩

/-- One piece of the joined vector is zero where the whole is: the piece at place `p` of the list, starting at
    position `o`. -/
theorem piece_zero (hp : fn h w1 b1 wa ba wb bb wc bc wcls bcls = fun _ => 1#1) (p o n : ℕ)
    (x : (⟨1, ![n]⟩ : Shape).Idx → Ideal .f32)
    (hk : p < (pieces b1 ba bb bc bcls).length) (hx : (pieces b1 ba bb bc bcls)[p] = ⟨⟨1, ![n]⟩, x⟩)
    (hpre : ((((pieces b1 ba bb bc bcls).take p).map (·.1)).map fun s => if hr : s.rank = S1027.rank then s.size ((0 : Fin 1).cast hr.symm) else 0).sum = o)
    (hn : o + n ≤ 1027) (i : (⟨1, ![n]⟩ : Shape).Idx) : x i = (0 : EReal) := by
  have hi : (i 0).val < n := (i 0).isLt
  rw [← joined_zero hp (pos (o + (i 0).val) (by omega))]
  refine (concatenate_apply_piece (t := S1027) 0 _ _ _ p hk ⟨1, ![n]⟩ x hx rfl o hpre i (fun b hb => ?_) rfl).symm
  match b with
  | ⟨0, _⟩ => exact absurd rfl hb

/-- Where the precondition holds, each of the five biases is zero. -/
theorem biases_zero (hp : fn h w1 b1 wa ba wb bb wc bc wcls bcls = fun _ => 1#1) :
    (∀ i, b1 i = (0 : EReal)) ∧ (∀ i, ba i = (0 : EReal)) ∧ (∀ i, bb i = (0 : EReal)) ∧ (∀ i, bc i = (0 : EReal))
      ∧ (∀ i, bcls i = (0 : EReal)) :=
  ⟨piece_zero hp 0 0 512 b1 (by simp [pieces]) rfl rfl (by omega), piece_zero hp 1 512 256 ba (by simp [pieces]) rfl rfl (by omega),
    piece_zero hp 2 768 256 bb (by simp [pieces]) rfl rfl (by omega), piece_zero hp 3 1024 1 bc (by simp [pieces]) rfl rfl (by omega),
    piece_zero hp 4 1025 2 bcls (by simp [pieces]) rfl rfl (by omega)⟩

end Cert.Biases
-- ==== Proof.Staged.lean ====
/-
What the one grid step of the kernel leaves in its four result arrays, as a function of the argument arrays.

The kernel copies W1 in four bands of 256 rows, and Wa and Wb whole, into scratch memory, and loads them back
from there. Reading a band back gives the band of the argument, so each result array is a payload of the kernel
applied to pieces of the arguments themselves. Nothing here depends on the arithmetic: the element type is any.
-/
module
public import proofs.«01_k».proof.Proof.Gen.KernelIdeal.Value
public import Idealize.ShloMosaic.Lib.Pipeline.ValueKit
public import Idealize.ShloMosaic.Lib.Pipeline.ReadBack
@[expose] public section
noncomputable section
open Idealize.ShloMosaic Idealize.ShloMosaic.TcCoe

namespace Cert.KernelIdeal.Staged
open Cert.KernelIdeal Cert.KernelIdeal.Gen Cert.KernelIdeal.Value

variable {F : FTy → Type} [FloatOps F]

/-! ## The results as functions of the arguments -/

/-- The product of the first 768 columns of the bag with the first 768 rows of W1, summed in three bands. -/
def bands (h : Vec F S77x1024 .f32) (w1 : Vec F S1024x512 .f32) : Vec F S77x512 .f32 :=
  k0_pay3 (View.ld h (Rect.unit ![0, 0] ![77, 256] inb_S77x1024_S77x256_0_0))
    (View.ld w1 (Rect.unit ![0, 0] ![256, 512] inb_S1024x512_S256x512_0_0))
    (View.ld h (Rect.unit ![0, 256] ![77, 256] inb_S77x1024_S77x256_0_256))
    (View.ld w1 (Rect.unit ![256, 0] ![256, 512] inb_S1024x512_S256x512_256_0))
    (View.ld h (Rect.unit ![0, 512] ![77, 256] inb_S77x1024_S77x256_0_512))
    (View.ld w1 (Rect.unit ![512, 0] ![256, 512] inb_S1024x512_S256x512_512_0))

/-- The last 256 columns of the bag. -/
def lastCols (h : Vec F S77x1024 .f32) : Vec F S77x256 .f32 :=
  View.ld h (Rect.unit ![0, 768] ![77, 256] inb_S77x1024_S77x256_0_768)

/-- The last 256 rows of W1. -/
def lastRows (w1 : Vec F S1024x512 .f32) : Vec F S256x512 .f32 :=
  View.ld w1 (Rect.unit ![768, 0] ![256, 512] inb_S1024x512_S256x512_768_0)

/-- The column Wc laid out as one row, as the host hands it to the kernel. -/
def wcRow (wc : Vec F S256x1 .f32) : Vec F S1x256 .f32 := shapeCast S1x256 wc shapeCasts_S256x1_S1x256

/-- The hidden layer of the bag. -/
def hidden (h : Vec F S77x1024 .f32) (w1 : Vec F S1024x512 .f32) : Vec F S77x512 .f32 :=
  k0_pay4 (bands h w1) (lastCols h) (lastRows w1)

/-- The row of raw attention scores. -/
def scores (h : Vec F S77x1024 .f32) (w1 : Vec F S1024x512 .f32) (wa wb : Vec F S512x256 .f32)
    (wc : Vec F S256x1 .f32) : Vec F S1x77 .f32 :=
  k0_pay5 (bands h w1) (lastCols h) (lastRows w1) wa wb (wcRow wc)

/-- The two class logits. -/
def logits (h : Vec F S77x1024 .f32) (w1 : Vec F S1024x512 .f32) (wa wb : Vec F S512x256 .f32)
    (wc : Vec F S256x1 .f32) (wcls : Vec F S512x2 .f32) : Vec F S1x2 .f32 :=
  k0_pay6 (bands h w1) (lastCols h) (lastRows w1) wa wb (wcRow wc) wcls

variable (m : (ℓ : Loc nD τ sig) → Buf (Elt F) ℓ)

/-! ## What the windows and the copies hold -/

/-- The grid has one point, and there each input window sits at the origin of its array. -/
theorem origin : ∀ t : Fin cfg0.N,
    win0_0.index t = ![0, 0] ∧ win0_1.index t = ![0, 0] ∧ win0_2.index t = ![0, 0] :=
  (by decide +kernel : ∀ t : Fin grid0.N, _)

/-- The window of the bag holds the whole bag. -/
theorem bag_block (c : Dev nD) : iblk m c 0 t0_0 = m ((c : Thread nD τ).loc main_arg0) := by
  blk_ext! [iblk, V, origin t0_0]

/-- The window of the row Wc holds that whole row. -/
theorem wc_block (c : Dev nD) : iblk m c 1 t0_0 = V m c main_v0 := by
  blk_ext! [iblk, origin t0_0]

/-- The window of the classifier weights holds them whole. -/
theorem wcls_block (c : Dev nD) : iblk m c 2 t0_0 = m ((c : Thread nD τ).loc main_arg9) := by
  blk_ext! [iblk, V, origin t0_0]

/-- The host's reshape hands the kernel the column Wc as a row. -/
theorem wc_row (c : Dev nD) : V m c main_v0 = wcRow (m ((c : Thread nD τ).loc main_arg7)) := rfl

/-- Scratch memory holding four bands of 256 rows gives the first of them back. -/
theorem first_band (w0 w1 w2 w3 : S256x512.Idx → Elt F .f32) :
    (View.whole cc0_scratch0).readCov
      [⟨Rect.unit ![768, 0] ![256, 512] inb_S1024x512_S256x512_768_0, w3⟩,
       ⟨Rect.unit ![512, 0] ![256, 512] inb_S1024x512_S256x512_512_0, w2⟩,
       ⟨Rect.unit ![256, 0] ![256, 512] inb_S1024x512_S256x512_256_0, w1⟩,
       ⟨Rect.unit ![0, 0] ![256, 512] inb_S1024x512_S256x512_0_0, w0⟩]
      (Rect.unit ![0, 0] ![256, 512] inb_S1024x512_S256x512_0_0).toLoadRect = w0 :=
  (View.readCov_skip _ _ _ _ _ (by rfl)).trans ((View.readCov_skip _ _ _ _ _ (by rfl)).trans ((View.readCov_skip _ _ _ _ _ (by rfl)).trans (View.readCov_cons_toLoadRect _ _ _ _)))

/-- Scratch memory holding four bands of 256 rows gives the second of them back. -/
theorem second_band (w0 w1 w2 w3 : S256x512.Idx → Elt F .f32) :
    (View.whole cc0_scratch0).readCov
      [⟨Rect.unit ![768, 0] ![256, 512] inb_S1024x512_S256x512_768_0, w3⟩,
       ⟨Rect.unit ![512, 0] ![256, 512] inb_S1024x512_S256x512_512_0, w2⟩,
       ⟨Rect.unit ![256, 0] ![256, 512] inb_S1024x512_S256x512_256_0, w1⟩,
       ⟨Rect.unit ![0, 0] ![256, 512] inb_S1024x512_S256x512_0_0, w0⟩]
      (Rect.unit ![256, 0] ![256, 512] inb_S1024x512_S256x512_256_0).toLoadRect = w1 :=
  (View.readCov_skip _ _ _ _ _ (by rfl)).trans ((View.readCov_skip _ _ _ _ _ (by rfl)).trans (View.readCov_cons_toLoadRect _ _ _ _))

/-- Scratch memory holding four bands of 256 rows gives the third of them back. -/
theorem third_band (w0 w1 w2 w3 : S256x512.Idx → Elt F .f32) :
    (View.whole cc0_scratch0).readCov
      [⟨Rect.unit ![768, 0] ![256, 512] inb_S1024x512_S256x512_768_0, w3⟩,
       ⟨Rect.unit ![512, 0] ![256, 512] inb_S1024x512_S256x512_512_0, w2⟩,
       ⟨Rect.unit ![256, 0] ![256, 512] inb_S1024x512_S256x512_256_0, w1⟩,
       ⟨Rect.unit ![0, 0] ![256, 512] inb_S1024x512_S256x512_0_0, w0⟩]
      (Rect.unit ![512, 0] ![256, 512] inb_S1024x512_S256x512_512_0).toLoadRect = w2 :=
  (View.readCov_skip _ _ _ _ _ (by rfl)).trans (View.readCov_cons_toLoadRect _ _ _ _)

/-- A scratch array filled in one copy and loaded whole gives what was copied. -/
theorem whole_copied (v : View sig .tc .vmem S512x256 .f32) (w : S512x256.Idx → Elt F .f32) :
    v.readCov [⟨Rect.whole S512x256, w⟩]
      (Rect.unit ![0, 0] ![512, 256] inb_S512x256_S512x256_0_0).toLoadRect = w :=
  View.readCov_cons_unit_lit' (S := S512x256) _ (off := fun _ => 0) (off' := ![0, 0]) _ _ w [] (by decide) (by decide)

/-- The sum over three bands depends on its six pieces only. -/
theorem pay3_of {a a' b b' d d' : Vec F S77x256 .f32} {u u' v v' w w' : Vec F S256x512 .f32}
    (ha : a = a') (hu : u = u') (hb : b = b') (hv : v = v') (hd : d = d') (hw : w = w') :
    k0_pay3 a u b v d w = k0_pay3 a' u' b' v' d' w' := by subst ha hu hb hv hd hw; rfl

/-- The scores depend on the values loaded only. -/
theorem pay5_of {s s' : Vec F S77x512 .f32} {a a' : Vec F S77x256 .f32} {u u' : Vec F S256x512 .f32}
    {p p' q q' : Vec F S512x256 .f32} {w w' : Vec F S1x256 .f32}
    (hs : s = s') (ha : a = a') (hu : u = u') (hp : p = p') (hq : q = q') (hw : w = w') :
    k0_pay5 s a u p q w = k0_pay5 s' a' u' p' q' w' := by subst hs ha hu hp hq hw; rfl

/-- The logits depend on the values loaded only. -/
theorem pay6_of {s s' : Vec F S77x512 .f32} {a a' : Vec F S77x256 .f32} {u u' : Vec F S256x512 .f32}
    {p p' q q' : Vec F S512x256 .f32} {w w' : Vec F S1x256 .f32} {z z' : Vec F S512x2 .f32}
    (hs : s = s') (ha : a = a') (hu : u = u') (hp : p = p') (hq : q = q') (hw : w = w') (hz : z = z') :
    k0_pay6 s a u p q w z = k0_pay6 s' a' u' p' q' w' z' := by subst hs ha hu hp hq hw hz; rfl

/-! ## The four result arrays -/

/-- The fourth result array ends as the row of raw attention scores. -/
theorem scores_array (c : Dev nD) : (dats m 0 c).arrAt 6 cfg0.N
    = scores (m ((c : Thread nD τ).loc main_arg0)) (m ((c : Thread nD τ).loc main_arg1))
        (m ((c : Thread nD τ).loc main_arg3)) (m ((c : Thread nD τ).loc main_arg5))
        (m ((c : Thread nD τ).loc main_arg7)) := by
  refine (dats m 0 c).arrAt_eq_of_after_last 6 t0_0 (by decide +kernel) _ fun j => ?_
  blk_simp
  rw [after0_6]
  unfold outsAt0
  frame_out
  simp only [View.readCov_cons_toLoadRect, bag_block, wc_block, wcls_block, read_unread_whole]
  exact congrFun (pay5_of (pay3_of rfl (first_band _ _ _ _) rfl (second_band _ _ _ _) rfl (third_band _ _ _ _)) rfl rfl
    (whole_copied _ _) (whole_copied _ _) (wc_row m c)) j

/-- The first result array ends as the logits. -/
theorem logits_array (c : Dev nD) : (dats m 0 c).arrAt 3 cfg0.N
    = logits (m ((c : Thread nD τ).loc main_arg0)) (m ((c : Thread nD τ).loc main_arg1))
        (m ((c : Thread nD τ).loc main_arg3)) (m ((c : Thread nD τ).loc main_arg5))
        (m ((c : Thread nD τ).loc main_arg7)) (m ((c : Thread nD τ).loc main_arg9)) := by
  refine (dats m 0 c).arrAt_eq_of_after_last 3 t0_0 (by decide +kernel) _ fun j => ?_
  blk_simp
  rw [after0_3]
  unfold outsAt0
  frame_out
  simp only [View.readCov_cons_toLoadRect, bag_block, wc_block, wcls_block, read_unread_whole]
  exact congrFun (pay6_of (pay3_of rfl (first_band _ _ _ _) rfl (second_band _ _ _ _) rfl (third_band _ _ _ _)) rfl rfl
    (whole_copied _ _) (whole_copied _ _) (wc_row m c) rfl) j

/-- The second result array ends as the class probabilities of those logits. -/
theorem probs_array (c : Dev nD) : (dats m 0 c).arrAt 4 cfg0.N
    = k0_pay1 (logits (m ((c : Thread nD τ).loc main_arg0)) (m ((c : Thread nD τ).loc main_arg1))
        (m ((c : Thread nD τ).loc main_arg3)) (m ((c : Thread nD τ).loc main_arg5))
        (m ((c : Thread nD τ).loc main_arg7)) (m ((c : Thread nD τ).loc main_arg9))) := by
  refine (dats m 0 c).arrAt_eq_of_after_last 4 t0_0 (by decide +kernel) _ fun j => ?_
  blk_simp
  rw [after0_4]
  unfold outsAt0
  frame_out
  simp only [View.readCov_cons_toLoadRect, bag_block, wc_block, wcls_block, read_unread_whole]
  exact congrFun (congrArg k0_pay1 (pay6_of (pay3_of rfl (first_band _ _ _ _) rfl (second_band _ _ _ _) rfl (third_band _ _ _ _)) rfl rfl
    (whole_copied _ _) (whole_copied _ _) (wc_row m c) rfl)) j

/-- The third result array ends as the predicted label of those logits. -/
theorem label_array (c : Dev nD) : (dats m 0 c).arrAt 5 cfg0.N
    = k0_pay2 (logits (m ((c : Thread nD τ).loc main_arg0)) (m ((c : Thread nD τ).loc main_arg1))
        (m ((c : Thread nD τ).loc main_arg3)) (m ((c : Thread nD τ).loc main_arg5))
        (m ((c : Thread nD τ).loc main_arg7)) (m ((c : Thread nD τ).loc main_arg9))) := by
  refine (dats m 0 c).arrAt_eq_of_after_last 5 t0_0 (by decide +kernel) _ fun j => ?_
  blk_simp
  rw [after0_5]
  unfold outsAt0
  frame_out
  simp only [View.readCov_cons_toLoadRect, bag_block, wc_block, wcls_block, read_unread_whole]
  exact congrFun (congrArg k0_pay2 (pay6_of (pay3_of rfl (first_band _ _ _ _) rfl (second_band _ _ _ _) rfl (third_band _ _ _ _)) rfl rfl
    (whole_copied _ _) (whole_copied _ _) (wc_row m c) rfl)) j

end Cert.KernelIdeal.Staged
-- ==== Proof.Hidden.lean ====
/-
The hidden layer: the kernel's sum of four products of 256 terms, kept non-negative, is the reference's one product
of 1024 terms, kept non-negative, when the bias b1 is zero.
-/
module
public import proofs.«01_k».proof.Proof.Staged
public import proofs.«01_k».proof.Proof.Gen.ReferenceIdeal.Read
public import Idealize.ShloMosaic.Lib.MatmulPlain
public import Idealize.ShloMosaic.Lib.KernelVsHost
@[expose] public section
noncomputable section
open Idealize.ShloMosaic Idealize.ShloMosaic.TcCoe
open scoped BigOperators

namespace Cert.Hidden
open Cert.KernelIdeal Cert.KernelIdeal.Gen Cert.KernelIdeal.Staged Cert.ReferenceIdeal.Read

/-! ## Reading one entry of a product -/

/-- An entry of a matrix product started from zero is the sum of the products along its row and column. -/
theorem product_entry {M K N : ℕ} (d : DotDims ⟨2, ![M, K]⟩ ⟨2, ![K, N]⟩ ⟨2, ![M, N]⟩)
    (hd : d = DotDims.plain M K N) (x : FVec Ideal ⟨2, ![M, K]⟩ .f32) (y : FVec Ideal ⟨2, ![K, N]⟩ .f32)
    (r : Fin M) (c : Fin N) :
    matmul d none x y (constant ⟨2, ![M, N]⟩ .f32 0x00000000#32) (ValueIdx.ix2 r c)
      = ∑ k : Fin K, x (ValueIdx.ix2 r k) * y (ValueIdx.ix2 k c) := by
  subst hd
  refine (Ideal.matmul_plain_apply none x y _ r c).trans ?_
  exact (congrArg (· + _) Ideal.ofBits_zero_f32).trans (zero_add _)

/-- The same for the host's matrix product. -/
theorem host_product_entry {M K N : ℕ} (d : DotDims ⟨2, ![M, K]⟩ ⟨2, ![K, N]⟩ ⟨2, ![M, N]⟩)
    (hd : d = DotDims.plain M K N) (x : FVec Ideal ⟨2, ![M, K]⟩ .f32) (y : FVec Ideal ⟨2, ![K, N]⟩ .f32)
    (r : Fin M) (c : Fin N) :
    Host.dotGeneral d none x y (ValueIdx.ix2 r c) = ∑ k : Fin K, x (ValueIdx.ix2 r k) * y (ValueIdx.ix2 k c) := by
  rw [← matmul_zero_eq_dotGeneral]
  exact product_entry d hd x y r c

/-- A sum of 1024 terms is the sum of its four quarters, added from the left. -/
theorem sum_quarters (f : Fin 1024 → EReal) :
    ∑ k : Fin 1024, f k
      = ∑ k : Fin 256, f ⟨k.val, by omega⟩ + ∑ k : Fin 256, f ⟨256 + k.val, by omega⟩
        + ∑ k : Fin 256, f ⟨512 + k.val, by omega⟩ + ∑ k : Fin 256, f ⟨768 + k.val, by omega⟩ := by
  refine (Fin.sum_univ_add (a := 256 + 256 + 256) (b := 256) f).trans (congrArg₂ (· + ·) ?_ rfl)
  refine (Fin.sum_univ_add (a := 256 + 256) (b := 256) _).trans (congrArg₂ (· + ·) ?_ rfl)
  exact (Fin.sum_univ_add (a := 256) (b := 256) _).trans rfl

/-! ## A band of columns or of rows, entry by entry -/

/-- A band of 256 columns of the bag, entry by entry. -/
theorem cols_entry (h : Vec Ideal S77x1024 .f32) (o : ℕ) (inb : ∀ a, ![0, o] a + ![77, 256] a ≤ S77x1024.size a)
    (r : Fin 77) (k : Fin 256) (hk : o + k.val < 1024) :
    View.ld h (Rect.unit ![0, o] ![77, 256] inb) (ValueIdx.ix2 r k) = h (ValueIdx.ix2 r (⟨o + k.val, hk⟩ : Fin 1024)) := by
  refine congrArg h (funext fun a => Fin.ext ?_)
  match a with
  | ⟨0, _⟩ => simp [Rect.emb]
  | ⟨1, _⟩ => simp [Rect.emb]

/-- A band of 256 rows of W1, entry by entry. -/
theorem rows_entry (w : Vec Ideal S1024x512 .f32) (o : ℕ) (inb : ∀ a, ![o, 0] a + ![256, 512] a ≤ S1024x512.size a)
    (k : Fin 256) (c : Fin 512) (hk : o + k.val < 1024) :
    View.ld w (Rect.unit ![o, 0] ![256, 512] inb) (ValueIdx.ix2 k c) = w (ValueIdx.ix2 (⟨o + k.val, hk⟩ : Fin 1024) c) := by
  refine congrArg w (funext fun a => Fin.ext ?_)
  match a with
  | ⟨0, _⟩ => simp [Rect.emb]
  | ⟨1, _⟩ => simp [Rect.emb]

/-- One band's product, entry by entry. -/
theorem band_entry (h : Vec Ideal S77x1024 .f32) (w : Vec Ideal S1024x512 .f32) (o : ℕ)
    (inb : ∀ a, ![0, o] a + ![77, 256] a ≤ S77x1024.size a)
    (inb' : ∀ a, ![o, 0] a + ![256, 512] a ≤ S1024x512.size a) (ho : o + 256 ≤ 1024) (r : Fin 77) (c : Fin 512) :
    matmul (F := Ideal) (φ₁ := .f32) (φ₂ := .f32) dot_S77x256_S256x512_S77x512_1_0_0_1_n_n none
        (View.ld h (Rect.unit ![0, o] ![77, 256] inb))
        (View.ld w (Rect.unit ![o, 0] ![256, 512] inb')) (constant S77x512 .f32 0x00000000#32) (ValueIdx.ix2 r c)
      = ∑ k : Fin 256, h (ValueIdx.ix2 r (⟨o + k.val, by omega⟩ : Fin 1024)) * w (ValueIdx.ix2 (⟨o + k.val, by omega⟩ : Fin 1024) c) := by
  refine (product_entry _ rfl _ _ r c).trans (Finset.sum_congr rfl fun k _ => ?_)
  exact congrArg₂ (· * ·) (cols_entry h o inb r k _) (rows_entry w o inb' k c _)

/-! ## The equation -/

/-- The hidden layer the kernel computes is the reference's, the bias b1 being zero. -/
theorem hidden_eq (h : Vec Ideal S77x1024 .f32) (w1 : Vec Ideal S1024x512 .f32) (b1 : Vec Ideal S512 .f32)
    (hb : ∀ i, b1 i = (0 : EReal)) : hidden h w1 = val_main_v4 h w1 b1 := by
  funext i
  obtain ⟨r, c, rfl⟩ : ∃ (r : Fin 77) (c : Fin 512), i = ValueIdx.ix2 r c := ⟨i 0, i 1, by
    funext a; match a with | ⟨0, _⟩ => rfl | ⟨1, _⟩ => rfl⟩
  have hk : bands h w1 (ValueIdx.ix2 r c) + matmul (F := Ideal) (φ₁ := .f32) (φ₂ := .f32)
      dot_S77x256_S256x512_S77x512_1_0_0_1_n_n none (lastCols h) (lastRows w1) (constant S77x512 .f32 0x00000000#32) (ValueIdx.ix2 r c) = val_main_v3 h w1 b1 (ValueIdx.ix2 r c) := by
    have hr : val_main_v3 h w1 b1 (ValueIdx.ix2 r c)
        = ∑ k : Fin 1024, h (ValueIdx.ix2 r k) * w1 (ValueIdx.ix2 k c) := by
      rw [val_main_v3_apply, val_main_v2_apply, val_main_v1_apply, hb, Ideal.addf_def, add_zero]
      exact host_product_entry _ rfl h w1 r c
    rw [hr, sum_quarters]
    refine congrArg₂ (· + ·) (congrArg₂ (· + ·) (congrArg₂ (· + ·) ?_ ?_) ?_) ?_
    · refine (band_entry h w1 0 _ _ (by omega) r c).trans (Finset.sum_congr rfl fun k _ => ?_)
      simp only [Nat.zero_add]
    · exact band_entry h w1 256 _ _ (by omega) r c
    · exact band_entry h w1 512 _ _ (by omega) r c
    · exact band_entry h w1 768 _ _ (by omega) r c
  exact congrArg (fun z => max z _) hk

end Cert.Hidden
-- ==== Proof.Scores.lean ====
/-
The raw attention scores: the kernel's row Wc · (tanh(h Wa) ∘ σ(h Wb))ᵀ is the transpose of the reference's column
(tanh(h Wa) ∘ σ(h Wb)) · Wc, when the three biases on the way are zero.
-/
module
public import proofs.«01_k».proof.Proof.Hidden
public import Idealize.ShloMosaic.Lib.IdealHost
@[expose] public section
noncomputable section
open Idealize.ShloMosaic Idealize.ShloMosaic.TcCoe
open scoped BigOperators

namespace Cert.Scores
open Cert.KernelIdeal Cert.KernelIdeal.Gen Cert.KernelIdeal.Staged Cert.ReferenceIdeal.Read Cert.Hidden

variable (h : Vec Ideal S77x1024 .f32) (w1 : Vec Ideal S1024x512 .f32) (b1 : Vec Ideal S512 .f32)
  (wa : Vec Ideal S512x256 .f32) (ba : Vec Ideal S256 .f32) (wb : Vec Ideal S512x256 .f32) (bb : Vec Ideal S256 .f32)
  (wc : Vec Ideal S256x1 .f32) (bc : Vec Ideal S1 .f32)

/-- The kernel's gated features, from a hidden layer. -/
def gated (wa wb : Vec Ideal S512x256 .f32) (x : Vec Ideal S77x512 .f32) : Vec Ideal S77x256 .f32 :=
  mulf (F := Ideal) (tanh (matmul (F := Ideal) (φ₁ := .f32) (φ₂ := .f32) dot_S77x512_S512x256_S77x256_1_0_0_1_n_n none x wa
      (constant S77x256 .f32 0x00000000#32)))
    (logistic (matmul (F := Ideal) (φ₁ := .f32) (φ₂ := .f32) dot_S77x512_S512x256_S77x256_1_0_0_1_n_n none x wb
      (constant S77x256 .f32 0x00000000#32)))

/-- The kernel's scores are the row Wc against the gated features. -/
theorem scores_gated : scores h w1 wa wb wc
    = matmul (F := Ideal) (φ₁ := .f32) (φ₂ := .f32) dot_S1x256_S77x256_S1x77_1_1_0_0_n_n none
        (shapeCast S1x256 (wcRow wc) shapeCasts_S1x256_S1x256) (gated wa wb (hidden h w1))
        (constant S1x77 .f32 0x00000000#32) := rfl

/-- The first gate before its tanh: the bias ba adds nothing. -/
theorem pre_tanh (ha : ∀ i, ba i = (0 : EReal)) (i : S77x256.Idx) :
    val_main_v8 h w1 b1 wa ba i = val_main_v5 h w1 b1 wa i := by
  rw [val_main_v8_apply, val_main_v7_apply, val_main_v6_apply, ha, Ideal.addf_def, add_zero]

/-- The second gate before its sigmoid: the bias bb adds nothing. -/
theorem pre_sigmoid (hb : ∀ i, bb i = (0 : EReal)) (i : S77x256.Idx) :
    val_main_v13 h w1 b1 wb bb i = val_main_v10 h w1 b1 wb i := by
  rw [val_main_v13_apply, val_main_v12_apply, val_main_v11_apply, hb, Ideal.addf_def, add_zero]

/-- The reference's quotient 1 / (1 + exp (-x)) is the sigmoid of x. -/
theorem sigmoid_entry (i : S77x256.Idx) :
    val_main_v19 h w1 b1 wb bb i = Ideal.logistic (val_main_v13 h w1 b1 wb bb i) := by
  rw [val_main_v19_apply, val_main_v18_apply, val_main_v17_apply, val_main_v16_apply, val_main_v15_apply,
    val_main_v14_apply, val_main_cst_apply, val_main_cst_0_apply]
  show Ideal.div (Ideal.ofBits .f32 0x3F800000#32) (Ideal.ofBits .f32 0x3F800000#32 + Ideal.exp (- _)) = _
  rw [Ideal.ofBits_one_f32]
  rfl

/-- The gated features of the reference are the kernel's, of the reference's hidden layer. -/
theorem gated_eq (ha : ∀ i, ba i = (0 : EReal)) (hb : ∀ i, bb i = (0 : EReal)) :
    gated wa wb (val_main_v4 h w1 b1) = val_main_v20 h w1 b1 wa ba wb bb := by
  funext i
  rw [val_main_v20_apply, val_main_v9_apply, sigmoid_entry, pre_tanh h w1 b1 wa ba ha, pre_sigmoid h w1 b1 wb bb hb]
  unfold gated
  rw [matmul_zero_eq_dotGeneral, matmul_zero_eq_dotGeneral]
  rfl

/-- The column Wc laid out as a row, entry by entry. -/
theorem wcRow_entry (k : Fin 256) : wcRow wc (ValueIdx.ix2 (0 : Fin 1) k) = wc (ValueIdx.ix2 k (0 : Fin 1)) := by
  refine shapeCast_apply wc _ _ _ ?_
  rw [Shape.rowMajor_val_two, Shape.rowMajor_val_two]
  simp

/-- An entry of the kernel's scores. -/
theorem scores_entry (x : Vec Ideal S77x256 .f32) (r : Fin 77) :
    matmul (F := Ideal) (φ₁ := .f32) (φ₂ := .f32) dot_S1x256_S77x256_S1x77_1_1_0_0_n_n none
        (shapeCast S1x256 (wcRow wc) shapeCasts_S1x256_S1x256) x
        (constant S1x77 .f32 0x00000000#32) (ValueIdx.ix2 (0 : Fin 1) r)
      = ∑ k : Fin 256, x (ValueIdx.ix2 r k) * wc (ValueIdx.ix2 k (0 : Fin 1)) := by
  rw [shapeCast_self]
  refine (Ideal.matmul_transposedRhs_apply (M := 1) (K := 256) (N := 77) (φ₁ := .f32) (φ₂ := .f32) none (wcRow wc) x
    (constant S1x77 .f32 0x00000000#32) 0 r).trans ?_
  refine (congrArg (· + _) Ideal.ofBits_zero_f32).trans ((zero_add _).trans (Finset.sum_congr rfl fun k _ => ?_))
  rw [wcRow_entry]
  exact mul_comm (_ : EReal) _

/-- An entry of the reference's scores: the bias bc adds nothing. -/
theorem ref_scores_entry (hc : ∀ i, bc i = (0 : EReal)) (r : Fin 77) :
    val_main_v25 h w1 b1 wa ba wb bb wc bc (ValueIdx.ix2 (0 : Fin 1) r)
      = ∑ k : Fin 256, val_main_v20 h w1 b1 wa ba wb bb (ValueIdx.ix2 r k) * wc (ValueIdx.ix2 k (0 : Fin 1)) := by
  rw [val_main_v25_apply, val_main_v24_apply, val_main_v23_apply, val_main_v22_apply, hc, Ideal.addf_def, add_zero]
  have hi : idx_main_v25 (ValueIdx.ix2 (0 : Fin 1) r) = ValueIdx.ix2 r (0 : Fin 1) := by
    funext a; match a with | ⟨0, _⟩ => rfl | ⟨1, _⟩ => rfl
  rw [hi]
  exact host_product_entry _ rfl _ wc r 0

/-- The scores the kernel computes are the reference's, the biases b1, ba, bb and bc being zero. -/
theorem scores_eq (h1 : ∀ i, b1 i = (0 : EReal)) (ha : ∀ i, ba i = (0 : EReal)) (hb : ∀ i, bb i = (0 : EReal))
    (hc : ∀ i, bc i = (0 : EReal)) :
    scores h w1 wa wb wc = val_main_v25 h w1 b1 wa ba wb bb wc bc := by
  funext i
  obtain ⟨r, rfl⟩ : ∃ r : Fin 77, i = ValueIdx.ix2 (0 : Fin 1) r := ⟨i 1, by
    funext a; match a with | ⟨0, _⟩ => exact Subsingleton.elim (α := Fin 1) _ _ | ⟨1, _⟩ => rfl⟩
  rw [scores_gated, hidden_eq h w1 b1 h1, gated_eq h w1 b1 wa ba wb bb ha hb, scores_entry,
    ref_scores_entry h w1 b1 wa ba wb bb wc bc hc]

end Cert.Scores
-- ==== Proof.Softmax.lean ====
/-
One row's softmax: the kernel's vector operations and the host's compute the same row, whatever its length.
-/
module
public import proofs.«01_k».proof.Proof.Scores
@[expose] public section
noncomputable section
open Idealize.ShloMosaic Idealize.ShloMosaic.TcCoe
open scoped BigOperators

namespace Cert.Softmax
open Cert.KernelIdeal Cert.KernelIdeal.Gen

/-- The bits of the reference's starting value for a maximum are those of minus infinity. -/
theorem minus_infinity : Ideal.ofBits .f32 0xFF800000#32 = ⊥ := by
  simp [Ideal.ofBits, Ideal.ieee]

/-- One number spread along a row: by the kernel's reshape and broadcast, or by the host's two broadcasts. -/
theorem spread_eq {n : ℕ} (v : FVec Ideal S1 .f32) (hb : S1x1.Broadcasts ⟨2, ![1, n]⟩)
    (h0 : S1.BroadcastsInDim S1x1 ![0]) (h1 : S1x1.BroadcastsInDim ⟨2, ![1, n]⟩ ![0, 1]) :
    broadcastTo ⟨2, ![1, n]⟩ (shapeCast S1x1 v shapeCasts_S1_S1x1) hb
      = broadcastInDim ⟨2, ![1, n]⟩ ![0, 1] h1 (broadcastInDim S1x1 ![0] h0 v) := by
  funext i
  have one : ∀ a b : S1.Idx, a = b := fun a b => funext fun y => by
    match y with | ⟨0, _⟩ => exact Subsingleton.elim (α := Fin 1) (a 0) (b 0)
  exact congrArg v (one _ _)

/-- The largest entry of a row: the host compares the kernel's maximum with minus infinity once more. -/
theorem largest_eq {n : ℕ} (x : FVec Ideal ⟨2, ![1, n]⟩ .f32) (hr : (⟨2, ![1, n]⟩ : Shape).Reduces [1] S1)
    (hR : (⟨2, ![1, n]⟩ : Shape).ReducesTo [1] S1) (hu : 0 < Cert.ReferenceIdeal.S_.numel)
    (hs : Cert.ReferenceIdeal.S_.BroadcastsInDim S1 ![]) :
    maximumf (broadcastInDim S1 ![] hs (constant Cert.ReferenceIdeal.S_ .f32 0xFF800000#32))
        (Host.reduce FloatOps.maximumf x (constant Cert.ReferenceIdeal.S_ .f32 0xFF800000#32) hR hu)
      = multiReduction .maximumf [1] S1 x 0xFF800000#32 hr (.inl rfl) rfl := by
  funext j
  refine (congrArg (fun z : EReal => max z _) minus_infinity).trans ((max_eq_right bot_le).trans ?_)
  exact congrFun (hostReduce_maximumf_eq_multiReduction x _ hR hu hr (.inl rfl) rfl) j

/-- The exponentials of a row's entries less one number, by the kernel's operations. -/
def rowExp {n : ℕ} (hb : S1x1.Broadcasts ⟨2, ![1, n]⟩) (x : FVec Ideal ⟨2, ![1, n]⟩ .f32) (v : FVec Ideal S1 .f32) :
    FVec Ideal ⟨2, ![1, n]⟩ .f32 :=
  exp (subf x (broadcastTo ⟨2, ![1, n]⟩ (shapeCast S1x1 v shapeCasts_S1_S1x1) hb))

/-- A row divided by one number, by the kernel's operations. -/
def rowDiv {n : ℕ} (hb : S1x1.Broadcasts ⟨2, ![1, n]⟩) (x : FVec Ideal ⟨2, ![1, n]⟩ .f32) (v : FVec Ideal S1 .f32) :
    FVec Ideal ⟨2, ![1, n]⟩ .f32 :=
  divf x (broadcastTo ⟨2, ![1, n]⟩ (shapeCast S1x1 v shapeCasts_S1_S1x1) hb)

/-- The host's exponentials of a row's entries less one number are the kernel's. -/
theorem hostExp_eq {n : ℕ} (hb : S1x1.Broadcasts ⟨2, ![1, n]⟩) (h0 : S1.BroadcastsInDim S1x1 ![0])
    (h1 : S1x1.BroadcastsInDim ⟨2, ![1, n]⟩ ![0, 1]) (x : FVec Ideal ⟨2, ![1, n]⟩ .f32) (v : FVec Ideal S1 .f32) :
    Host.exp (subf x (broadcastInDim ⟨2, ![1, n]⟩ ![0, 1] h1 (broadcastInDim S1x1 ![0] h0 v))) = rowExp hb x v := by
  rw [← spread_eq v hb h0 h1]
  rfl

/-- The host's quotient of a row by one number is the kernel's. -/
theorem hostDiv_eq {n : ℕ} (hb : S1x1.Broadcasts ⟨2, ![1, n]⟩) (h0 : S1.BroadcastsInDim S1x1 ![0])
    (h1 : S1x1.BroadcastsInDim ⟨2, ![1, n]⟩ ![0, 1]) (x : FVec Ideal ⟨2, ![1, n]⟩ .f32) (v : FVec Ideal S1 .f32) :
    Host.divf x (broadcastInDim ⟨2, ![1, n]⟩ ![0, 1] h1 (broadcastInDim S1x1 ![0] h0 v)) = rowDiv hb x v := by
  rw [← spread_eq v hb h0 h1]
  rfl

/-- The softmax of a row by the kernel's vector operations. -/
def rowSoftmax {n : ℕ} (hr : (⟨2, ![1, n]⟩ : Shape).Reduces [1] S1) (hb : S1x1.Broadcasts ⟨2, ![1, n]⟩)
    (x : FVec Ideal ⟨2, ![1, n]⟩ .f32) : FVec Ideal ⟨2, ![1, n]⟩ .f32 :=
  rowDiv hb (rowExp hb x (multiReduction .maximumf [1] S1 x 0xFF800000#32 hr (.inl rfl) rfl))
    (multiReduction .add [1] S1 (rowExp hb x (multiReduction .maximumf [1] S1 x 0xFF800000#32 hr (.inl rfl) rfl))
      0x00000000#32 hr (.inl rfl) rfl)

/-- The host's exponentials of a row's entries less the largest of them. -/
def hostExps {n : ℕ} (hR : (⟨2, ![1, n]⟩ : Shape).ReducesTo [1] S1) (hu : 0 < Cert.ReferenceIdeal.S_.numel)
    (hs : Cert.ReferenceIdeal.S_.BroadcastsInDim S1 ![]) (h0 : S1.BroadcastsInDim S1x1 ![0])
    (h1 : S1x1.BroadcastsInDim ⟨2, ![1, n]⟩ ![0, 1]) (x : FVec Ideal ⟨2, ![1, n]⟩ .f32) :
    FVec Ideal ⟨2, ![1, n]⟩ .f32 :=
  Host.exp (subf x (broadcastInDim ⟨2, ![1, n]⟩ ![0, 1] h1 (broadcastInDim S1x1 ![0] h0
    (maximumf (broadcastInDim S1 ![] hs (constant Cert.ReferenceIdeal.S_ .f32 0xFF800000#32))
      (Host.reduce FloatOps.maximumf x (constant Cert.ReferenceIdeal.S_ .f32 0xFF800000#32) hR hu)))))

/-- The softmax of a row by the host's operations. -/
def hostSoftmax {n : ℕ} (hR : (⟨2, ![1, n]⟩ : Shape).ReducesTo [1] S1) (hu : 0 < Cert.ReferenceIdeal.S_.numel)
    (hs : Cert.ReferenceIdeal.S_.BroadcastsInDim S1 ![]) (h0 : S1.BroadcastsInDim S1x1 ![0])
    (h1 : S1x1.BroadcastsInDim ⟨2, ![1, n]⟩ ![0, 1]) (x : FVec Ideal ⟨2, ![1, n]⟩ .f32) :
    FVec Ideal ⟨2, ![1, n]⟩ .f32 :=
  Host.divf (hostExps hR hu hs h0 h1 x) (broadcastInDim ⟨2, ![1, n]⟩ ![0, 1] h1 (broadcastInDim S1x1 ![0] h0
    (Host.reduceAdd (hostExps hR hu hs h0 h1 x) (constant Cert.ReferenceIdeal.S_ .f32 0x00000000#32) hR hu)))

/-- The two softmaxes are the same row. -/
theorem softmax_eq {n : ℕ} (hr : (⟨2, ![1, n]⟩ : Shape).Reduces [1] S1) (hb : S1x1.Broadcasts ⟨2, ![1, n]⟩)
    (hR : (⟨2, ![1, n]⟩ : Shape).ReducesTo [1] S1) (hu : 0 < Cert.ReferenceIdeal.S_.numel)
    (hs : Cert.ReferenceIdeal.S_.BroadcastsInDim S1 ![]) (h0 : S1.BroadcastsInDim S1x1 ![0])
    (h1 : S1x1.BroadcastsInDim ⟨2, ![1, n]⟩ ![0, 1]) (x : FVec Ideal ⟨2, ![1, n]⟩ .f32) :
    rowSoftmax hr hb x = hostSoftmax hR hu hs h0 h1 x := by
  have he : hostExps hR hu hs h0 h1 x
      = rowExp hb x (multiReduction .maximumf [1] S1 x 0xFF800000#32 hr (.inl rfl) rfl) :=
    (hostExp_eq hb h0 h1 x _).trans (congrArg (rowExp hb x) (largest_eq x hr hR hu hs))
  unfold hostSoftmax
  rw [he]
  refine Eq.trans ?_ (hostDiv_eq hb h0 h1 _ _).symm
  exact congrArg (rowDiv hb _)
    (multiReduction_add_eq_hostReduceAdd _ _ hr (.inl rfl) rfl _ hR hu Ideal.ofBits_zero_f32)

end Cert.Softmax
-- ==== Proof.Pool.lean ====
/-
The logits and the class probabilities: the pooled feature row softmax(scores) · h against the classifier weights, and
the softmax of that, as the kernel and the reference compute them, when all biases are zero.
-/
module
public import proofs.«01_k».proof.Proof.Softmax
@[expose] public section
noncomputable section
open Idealize.ShloMosaic Idealize.ShloMosaic.TcCoe

namespace Cert.Pool
open Cert.KernelIdeal Cert.KernelIdeal.Gen Cert.KernelIdeal.Staged Cert.ReferenceIdeal.Read Cert.Softmax

/-- The kernel's logits from a row of scores and a hidden layer. -/
def pooled (s : Vec Ideal S1x77 .f32) (x : Vec Ideal S77x512 .f32) (wcls : Vec Ideal S512x2 .f32) :
    Vec Ideal S1x2 .f32 :=
  matmul (F := Ideal) (φ₁ := .f32) (φ₂ := .f32) dot_S1x512_S512x2_S1x2_1_0_0_1_n_n none
    (matmul (F := Ideal) (φ₁ := .f32) (φ₂ := .f32) dot_S1x77_S77x512_S1x512_1_0_0_1_n_n none
      (rowSoftmax (n := 77) reduces_S1x77_S1 broadcasts_S1x1_S1x77 s) x (constant S1x512 .f32 0x00000000#32))
    wcls (constant S1x2 .f32 0x00000000#32)

variable (h : Vec Ideal S77x1024 .f32) (w1 : Vec Ideal S1024x512 .f32) (b1 : Vec Ideal S512 .f32)
  (wa : Vec Ideal S512x256 .f32) (ba : Vec Ideal S256 .f32) (wb : Vec Ideal S512x256 .f32) (bb : Vec Ideal S256 .f32)
  (wc : Vec Ideal S256x1 .f32) (bc : Vec Ideal S1 .f32) (wcls : Vec Ideal S512x2 .f32) (bcls : Vec Ideal S2 .f32)

/-- The kernel's logits are pooled from its scores and its hidden layer. -/
theorem logits_pooled : logits h w1 wa wb wc wcls = pooled (scores h w1 wa wb wc) (hidden h w1) wcls := rfl

/-- The reference's attention weights are the host's softmax of its scores. -/
theorem weights_host : val_main_v36 h w1 b1 wa ba wb bb wc bc
    = hostSoftmax (n := 77) Cert.ReferenceIdeal.Facts₀.reducesTo_S1x77_S1_d1 Cert.ReferenceIdeal.Facts₀.h_S_
        Cert.ReferenceIdeal.Facts₀.bcast_S_S1 Cert.ReferenceIdeal.Facts₀.bcast_S1_S1x1_0
        Cert.ReferenceIdeal.Facts₀.bcast_S1x1_S1x77_0_1 (val_main_v25 h w1 b1 wa ba wb bb wc bc) := rfl

/-- The reference's logits before their bias are pooled from its scores and its hidden layer. -/
theorem ref_pooled : val_main_v38 h w1 b1 wa ba wb bb wc bc wcls
    = pooled (val_main_v25 h w1 b1 wa ba wb bb wc bc) (val_main_v4 h w1 b1) wcls := by
  unfold pooled
  rw [matmul_zero_eq_dotGeneral, matmul_zero_eq_dotGeneral,
    softmax_eq (n := 77) reduces_S1x77_S1 broadcasts_S1x1_S1x77 Cert.ReferenceIdeal.Facts₀.reducesTo_S1x77_S1_d1
      Cert.ReferenceIdeal.Facts₀.h_S_ Cert.ReferenceIdeal.Facts₀.bcast_S_S1
      Cert.ReferenceIdeal.Facts₀.bcast_S1_S1x1_0 Cert.ReferenceIdeal.Facts₀.bcast_S1x1_S1x77_0_1, ← weights_host]
  rfl

/-- The reference's logits: the bias bcls adds nothing. -/
theorem ref_logits (hl : ∀ i, bcls i = (0 : EReal)) :
    val_main_v40 h w1 b1 wa ba wb bb wc bc wcls bcls = val_main_v38 h w1 b1 wa ba wb bb wc bc wcls := by
  funext i
  rw [val_main_v40_apply, val_main_v39_apply, hl, Ideal.addf_def, add_zero]

/-- The logits the kernel computes are the reference's, all biases being zero. -/
theorem logits_eq (h1 : ∀ i, b1 i = (0 : EReal)) (ha : ∀ i, ba i = (0 : EReal)) (hb : ∀ i, bb i = (0 : EReal))
    (hc : ∀ i, bc i = (0 : EReal)) (hl : ∀ i, bcls i = (0 : EReal)) :
    logits h w1 wa wb wc wcls = val_main_v40 h w1 b1 wa ba wb bb wc bc wcls bcls := by
  rw [ref_logits h w1 b1 wa ba wb bb wc bc wcls bcls hl, ref_pooled, logits_pooled,
    Cert.Scores.scores_eq h w1 b1 wa ba wb bb wc bc h1 ha hb hc, Cert.Hidden.hidden_eq h w1 b1 h1]

/-- The reference's class probabilities are the host's softmax of its logits. -/
theorem probs_host : val_main_v51 h w1 b1 wa ba wb bb wc bc wcls bcls
    = hostSoftmax (n := 2) Cert.ReferenceIdeal.Facts₀.reducesTo_S1x2_S1_d1 Cert.ReferenceIdeal.Facts₀.h_S_
        Cert.ReferenceIdeal.Facts₀.bcast_S_S1 Cert.ReferenceIdeal.Facts₀.bcast_S1_S1x1_0
        Cert.ReferenceIdeal.Facts₀.bcast_S1x1_S1x2_0_1 (val_main_v40 h w1 b1 wa ba wb bb wc bc wcls bcls) := rfl

/-- The class probabilities the kernel computes of the reference's logits are the reference's. -/
theorem probs_eq : k0_pay1 (val_main_v40 h w1 b1 wa ba wb bb wc bc wcls bcls)
    = val_main_v51 h w1 b1 wa ba wb bb wc bc wcls bcls := by
  rw [probs_host]
  exact softmax_eq (n := 2) reduces_S1x2_S1 broadcasts_S1x1_S1x2 _ _ _ _ _ _

end Cert.Pool
-- ==== Proof.Label.lean ====
/-
The predicted label: the kernel asks whether the second logit is the larger, the reference takes the position of the
largest of the two. On a tie both answer 0.
-/
module
public import proofs.«01_k».proof.Proof.Pool
@[expose] public section
noncomputable section
open Idealize.ShloMosaic Idealize.ShloMosaic.TcCoe

namespace Cert.Label
open Cert.KernelIdeal Cert.KernelIdeal.Gen

/-- A stable sort of two positions puts the second first exactly when it comes before the first. -/
theorem first_of_two : ∀ g : Fin 2 → Fin 2 → Bool, sortedFrom g 0 = if g 1 0 then 1 else 0 := by
  decide

/-- The position of one class in the row of logits. -/
def at2 (k : Fin 2) : S1x2.Idx := ValueIdx.ix2 (0 : Fin 1) k

/-- The origin of a one by one array. -/
theorem only_index (j : S1x1.Idx) : j = ValueIdx.ix2 (0 : Fin 1) (0 : Fin 1) := by
  funext a
  match a with
  | ⟨0, _⟩ => exact Subsingleton.elim (α := Fin 1) _ _
  | ⟨1, _⟩ => exact Subsingleton.elim (α := Fin 1) _ _

/-- The position of the larger of two logits, as a word. -/
theorem topK_entry (x : FVec Ideal S1x2 .f32) (hs : S1x2.Slices (fun _ => 0) S1x1) :
    (Host.topK S1x1 1 (FloatOps.cmpfTotal .gt) x hs).2 (ValueIdx.ix2 (0 : Fin 1) (0 : Fin 1))
      = if x (at2 0) < x (at2 1) then 1#32 else 0#32 := by
  have along : ∀ k : Fin 2, Shape.Idx.along (s := S1x2) (at2 0) 1 k = at2 k := fun k => by
    funext a
    match a with
    | ⟨0, _⟩ => rfl
    | ⟨1, _⟩ => rfl
  have e : (Host.topK S1x1 1 (FloatOps.cmpfTotal .gt) x hs).2 (ValueIdx.ix2 (0 : Fin 1) (0 : Fin 1))
      = (Host.sort2 S1x2 1 (fun l r => FloatOps.cmpfTotal .gt l.1 r.1) x (iotaInDim S1x2 32 1)).2 (at2 0) :=
    extractStridedSlice_apply (t := S1x1) (fun _ => 0)
      (Host.sort2 S1x2 1 (fun l r => FloatOps.cmpfTotal .gt l.1 r.1) x (iotaInDim S1x2 32 1)).2 hs
      (ValueIdx.ix2 (0 : Fin 1) (0 : Fin 1)) (at2 0) fun a => match a with | ⟨0, _⟩ => rfl | ⟨1, _⟩ => rfl
  have e' : (Host.sort2 S1x2 1 (fun l r => FloatOps.cmpfTotal .gt l.1 r.1) x (iotaInDim S1x2 32 1)).2 (at2 0)
      = iotaInDim S1x2 32 1 (Shape.Idx.along (s := S1x2) (at2 0) 1
          (sortedFrom (n := 2) (fun k k' => FloatOps.cmpfTotal .gt (x (Shape.Idx.along (s := S1x2) (at2 0) 1 k))
            (x (Shape.Idx.along (s := S1x2) (at2 0) 1 k')) == 1#1) 0)) := rfl
  have e'' : ∀ k : Fin 2, iotaInDim S1x2 32 1 (at2 k) = BitVec.ofNat 32 k.val := fun k => rfl
  rw [e, e', along, e'', first_of_two, along, along, Ideal.cmpfTotal_def]
  by_cases hlt : x (at2 0) < x (at2 1) <;> simp [Ideal.cmp, CmpDirection.ordered, hlt]

/-- The kernel's label of a row of logits. -/
theorem label_entry (x : FVec Ideal S1x2 .f32) :
    k0_pay2 x (ValueIdx.ix2 (0 : Fin 1) (0 : Fin 1)) = if x (at2 0) < x (at2 1) then 1#32 else 0#32 := by
  have e1 : extractStridedSlice S1x1 ![0, 1] x slices_S1x2_o0_1_S1x1 (ValueIdx.ix2 (0 : Fin 1) (0 : Fin 1)) = x (at2 1) :=
    extractStridedSlice_apply _ _ _ _ _ fun a => match a with | ⟨0, _⟩ => rfl | ⟨1, _⟩ => rfl
  have e0 : extractStridedSlice S1x1 ![0, 0] x slices_S1x2_o0_0_S1x1 (ValueIdx.ix2 (0 : Fin 1) (0 : Fin 1)) = x (at2 0) :=
    extractStridedSlice_apply _ _ _ _ _ fun a => match a with | ⟨0, _⟩ => rfl | ⟨1, _⟩ => rfl
  have e : k0_pay2 x (ValueIdx.ix2 (0 : Fin 1) (0 : Fin 1))
      = BitVec.setWidth 32 (Ideal.cmp .ogt
          (extractStridedSlice S1x1 ![0, 1] x slices_S1x2_o0_1_S1x1 (ValueIdx.ix2 (0 : Fin 1) (0 : Fin 1)))
          (extractStridedSlice S1x1 ![0, 0] x slices_S1x2_o0_0_S1x1 (ValueIdx.ix2 (0 : Fin 1) (0 : Fin 1)))) := rfl
  rw [e, e1, e0]
  by_cases hlt : x (at2 0) < x (at2 1) <;> simp [Ideal.cmp, hlt]

/-- The kernel's label of a row of logits is the position of the largest. -/
theorem label_eq (x : FVec Ideal S1x2 .f32) (hs : S1x2.Slices (fun _ => 0) S1x1) :
    k0_pay2 x = (Host.topK S1x1 1 (FloatOps.cmpfTotal .gt) x hs).2 := by
  funext j
  rw [only_index j, label_entry, topK_entry]

end Cert.Label
-- ==== Proof.Equation.lean ====
/-
The equation: from memories that agree on the arguments, and all five biases zero, the kernel and the reference end with
the same logits, class probabilities, label and scores.
-/
module
public import proofs.«01_k».proof.Defs
public import proofs.«01_k».proof.Proof.Biases
public import proofs.«01_k».proof.Proof.Label
public import Idealize.ShloMosaic.Lib.Claim
@[expose] public section
noncomputable section
open Idealize.ShloMosaic Idealize.ShloMosaic.TcCoe

namespace Cert.Equation
open Cert.KernelIdeal Cert.KernelIdeal.Gen Cert.KernelIdeal.Value Cert.KernelIdeal.Staged Cert.ReferenceIdeal.Read

variable (m : (ℓ : Loc nD τ sig) → Buf (Elt Ideal) ℓ)

/-- All five bias arguments are zero on a device. -/
def BiasesZero (c : Dev nD) : Prop :=
  (∀ i, (m ((c : Thread nD τ).loc main_arg2) : Vec Ideal S512 .f32) i = (0 : EReal))
    ∧ (∀ i, (m ((c : Thread nD τ).loc main_arg4) : Vec Ideal S256 .f32) i = (0 : EReal))
    ∧ (∀ i, (m ((c : Thread nD τ).loc main_arg6) : Vec Ideal S256 .f32) i = (0 : EReal))
    ∧ (∀ i, (m ((c : Thread nD τ).loc main_arg8) : Vec Ideal S1 .f32) i = (0 : EReal))
    ∧ (∀ i, (m ((c : Thread nD τ).loc main_arg10) : Vec Ideal S2 .f32) i = (0 : EReal))

/-- The precondition says so of every device. -/
theorem zero_on (hp : Cert.Pre_KernelIdeal_biases_zero m) (c : Dev nD) : BiasesZero m c :=
  Cert.Biases.biases_zero (hp c)

/-- The kernel's fourth result is the reference's row of scores. -/
theorem scores_final (c : Dev nD) (hz : BiasesZero m c) : (dats m 0 c).arrAt 6 cfg0.N
    = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) :=
  (scores_array m c).trans (Cert.Scores.scores_eq _ _ _ _ _ _ _ _ _ hz.1 hz.2.1 hz.2.2.1 hz.2.2.2.1)

/-- The kernel's logits are the reference's. -/
theorem logits_same (c : Dev nD) (hz : BiasesZero m c) :
    logits (m ((c : Thread nD τ).loc main_arg0)) (m ((c : Thread nD τ).loc main_arg1)) (m ((c : Thread nD τ).loc main_arg3)) (m ((c : Thread nD τ).loc main_arg5))
      (m ((c : Thread nD τ).loc main_arg7)) (m ((c : Thread nD τ).loc main_arg9))
    = val_main_v40 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) :=
  Cert.Pool.logits_eq _ _ _ _ _ _ _ _ _ _ _ hz.1 hz.2.1 hz.2.2.1 hz.2.2.2.1 hz.2.2.2.2

/-- The kernel's first result is the reference's logits. -/
theorem logits_final (c : Dev nD) (hz : BiasesZero m c) : (dats m 0 c).arrAt 3 cfg0.N
    = val_main_v40 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) :=
  (logits_array m c).trans (logits_same m c hz)

/-- The kernel's second result is the reference's class probabilities. -/
theorem probs_final (c : Dev nD) (hz : BiasesZero m c) : (dats m 0 c).arrAt 4 cfg0.N
    = val_main_v51 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) :=
  (probs_array m c).trans ((congrArg k0_pay1 (logits_same m c hz)).trans (Cert.Pool.probs_eq _ _ _ _ _ _ _ _ _ _ _))

/-- The kernel's third result is the reference's label. -/
theorem label_final (c : Dev nD) (hz : BiasesZero m c) : (dats m 0 c).arrAt 5 cfg0.N
    = val_main_indices (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) :=
  (label_array m c).trans ((congrArg k0_pay2 (logits_same m c hz)).trans (Cert.Label.label_eq _ _))

/-- At exact arithmetic, with all five biases zero, the kernel's four results are the reference's. -/
theorem algebraic : Cert.algebraic_KernelIdeal_ReferenceIdeal_pre_biases_zero := by
  pair_intro
  · run_from Cert.KernelIdeal.Value.run_blocks m g
  · run_from Cert.ReferenceIdeal.Value.run m' g'
    · obtain ⟨h0, h1, h2, h3, h4, h5, h6, h7, h8, h9, h10⟩ := hagree c
      rw [val_main_v40_eq, h0, h1, h2, h3, h4, h5, h6, h7, h8, h9, h10]
      exact (logits_final m c (zero_on m hpre c)).symm
    · obtain ⟨h0, h1, h2, h3, h4, h5, h6, h7, h8, h9, h10⟩ := hagree c
      rw [val_main_v51_eq, h0, h1, h2, h3, h4, h5, h6, h7, h8, h9, h10]
      exact (probs_final m c (zero_on m hpre c)).symm
    · obtain ⟨h0, h1, h2, h3, h4, h5, h6, h7, h8, h9, h10⟩ := hagree c
      rw [val_main_indices_eq, h0, h1, h2, h3, h4, h5, h6, h7, h8, h9, h10]
      exact (label_final m c (zero_on m hpre c)).symm
    · exact (val_main_v25_eq _ _ _ _ _ _ _ _ _).trans (scores_final m c (zero_on m hpre c)).symm

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_biases_zero
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem

/-- The printed kernel runs to the end, its arguments unchanged and every semaphore at zero. -/
theorem frame_kernel : Cert.quiescent_Kernel := fun m ρ _ => Cert.Kernel.Gen.frame m ρ

/-- So does the idealized kernel. -/
theorem frame_ideal : Cert.quiescent_KernelIdeal := fun m ρ _ => Cert.KernelIdeal.Gen.frame m ρ

/-- So does the reference. -/
theorem frame_reference : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- Everything claimed. The frames hold whether or not the biases are zero. -/
theorem claim : Cert.Claim :=
  ⟨Cert.Kernel.Gen.facts, Cert.KernelIdeal.Gen.facts, Cert.ReferenceIdeal.Gen.facts, Cert.Pre_biases_zero.Gen.facts,
    frame_kernel, frame_ideal, fun m ρ _ => frame_ideal m ρ trivial, frame_reference,
    fun m ρ _ => frame_reference m ρ trivial, trivial, Cert.Equation.algebraic⟩

end Cert.Proof

end
